-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup_masks [hPre_setup_masks : Cert.Pre_setup_masks.Facts] (m : (ℓ : Loc Cert.KernelIdeal.nD Cert.KernelIdeal.τ Cert.KernelIdeal.sig) → Buf (Elt Ideal) ℓ) : Prop :=
  ∀ c : Dev Cert.KernelIdeal.nD,
    (Cert.Pre_setup_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup_masks [hPre_setup_masks : Cert.Pre_setup_masks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_setup_masks [hKernelIdeal : Cert.KernelIdeal.Facts] [hPre_setup_masks : Cert.Pre_setup_masks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup_masks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_setup_masks [hReferenceIdeal : Cert.ReferenceIdeal.Facts] [hPre_setup_masks : Cert.Pre_setup_masks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup_masks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_setup_masks [hKernelIdeal : Cert.KernelIdeal.Facts] [hReferenceIdeal : Cert.ReferenceIdeal.Facts] [hPre_setup_masks : Cert.Pre_setup_masks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup_masks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_setup_masks : Cert.Pre_setup_masks.Facts),
    quiescent_Kernel (hKernel := hKernel)
    ∧ quiescent_KernelIdeal (hKernelIdeal := hKernelIdeal)
    ∧ quiescent_KernelIdeal_pre_setup_masks (hKernelIdeal := hKernelIdeal) (hPre_setup_masks := hPre_setup_masks)
    ∧ quiescent_ReferenceIdeal (hReferenceIdeal := hReferenceIdeal)
    ∧ quiescent_ReferenceIdeal_pre_setup_masks (hReferenceIdeal := hReferenceIdeal) (hPre_setup_masks := hPre_setup_masks)
    ∧ preserves_Kernel_KernelIdeal
    ∧ algebraic_KernelIdeal_ReferenceIdeal_pre_setup_masks (hKernelIdeal := hKernelIdeal) (hReferenceIdeal := hReferenceIdeal) (hPre_setup_masks := hPre_setup_masks)
-- ==== Pre_setup_masks.lean ====
abbrev S16384x512 : Shape := ⟨2, ![16384, 512]⟩
abbrev S512x512 : Shape := ⟨2, ![512, 512]⟩
abbrev S512 : Shape := ⟨1, ![512]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S16384x512 .f32) (main_arg1 : FVec F S512x512 .f32) (main_arg2 : FVec F S512 .f32) (main_arg3 : IVec S256 32) (main_arg4 : IVec S256 32) : IVec S256 1 :=
  let main_v0 : IVec S256 32 := iotaInDim S256 32 0
  let main_c : IVec S_ 32 := constantI S_ 32 16#32
  let main_v1 : IVec S256 32 := broadcastInDim S256 ![] bcast_S_S256 main_c
  let main_v2 : IVec S256 32 := muli main_v0 main_v1
  let main_v3 : IVec S256 1 := cmpi .eq main_arg3 main_v2
  let main_c_0 : IVec S_ 32 := constantI S_ 32 2#32
  let main_v4 : IVec S256 32 := broadcastInDim S256 ![] bcast_S_S256 main_c_0
  let main_v5 : IVec S256 32 := muli main_v0 main_v4
  let main_v6 : IVec S256 1 := cmpi .eq main_arg4 main_v5
  let main_v7 : IVec S256 1 := andi main_v3 main_v6
  main_v7
-- ==== Kernel.lean ====
abbrev S16384x512 : Shape := ⟨2, ![16384, 512]⟩
abbrev S512x512 : Shape := ⟨2, ![512, 512]⟩
abbrev S512 : Shape := ⟨1, ![512]⟩
abbrev S256 : Shape := ⟨1, ![256]⟩
abbrev S1x512 : Shape := ⟨2, ![1, 512]⟩
abbrev S16384x4096 : Shape := ⟨2, ![16384, 4096]⟩
abbrev S1024x512 : Shape := ⟨2, ![1024, 512]⟩
abbrev S1024x4096 : Shape := ⟨2, ![1024, 4096]⟩
abbrev S64x512 : Shape := ⟨2, ![64, 512]⟩
abbrev S1024x64 : Shape := ⟨2, ![1024, 64]⟩

abbrev nBuf : Space → Nat
  | .hbm => 7
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S512, .f32⟩
  | .hbm, ⟨3, _⟩ => ⟨S256, .i32⟩
  | .hbm, ⟨4, _⟩ => ⟨S256, .i32⟩
  | .hbm, ⟨5, _⟩ => ⟨S1x512, .f32⟩
  | .hbm, ⟨6, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x4096, .f32⟩
  | .local _ .vmem, ⟨5, _⟩ => ⟨S1024x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x512 : Shape := ⟨2, ![16384, 512]⟩
abbrev S512x512 : Shape := ⟨2, ![512, 512]⟩
abbrev S512 : Shape := ⟨1, ![512]⟩
abbrev S256 : Shape := ⟨1, ![256]⟩
abbrev S1x512 : Shape := ⟨2, ![1, 512]⟩
abbrev S_ : Shape := ⟨0, ![]⟩
abbrev S16384x4096 : Shape := ⟨2, ![16384, 4096]⟩
abbrev S256x1 : Shape := ⟨2, ![256, 1]⟩
abbrev S1 : Shape := ⟨1, ![1]⟩
abbrev S1x1 : Shape := ⟨2, ![1, 1]⟩
abbrev S16384x256 : Shape := ⟨2, ![16384, 256]⟩

abbrev nBuf : Space → Nat
  | .hbm => 44
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S512, .f32⟩
  | .hbm, ⟨3, _⟩ => ⟨S256, .i32⟩
  | .hbm, ⟨4, _⟩ => ⟨S256, .i32⟩
  | .hbm, ⟨5, _⟩ => ⟨S512x512, .f32⟩
  | .hbm, ⟨6, _⟩ => ⟨S16384x512, .f32⟩
  | .hbm, ⟨7, _⟩ => ⟨S1x512, .f32⟩
  | .hbm, ⟨8, _⟩ => ⟨S16384x512, .f32⟩
  | .hbm, ⟨9, _⟩ => ⟨S16384x512, .f32⟩
  | .hbm, ⟨10, _⟩ => ⟨S_, .f32⟩
  | .hbm, ⟨11, _⟩ => ⟨S16384x4096, .f32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S256, .i32⟩
  | .hbm, ⟨19, _⟩ => ⟨S256x1, .i32⟩
  | .hbm, ⟨20, _⟩ => ⟨S1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S1x1, .i32⟩
  | .hbm, ⟨25, _⟩ => ⟨S256x1, .i32⟩
  | .hbm, ⟨26, _⟩ => ⟨S256x1, .i1⟩
  | .hbm, ⟨27, _⟩ => ⟨S256x1, .i1⟩
  | .hbm, ⟨28, _⟩ => ⟨S_, .i1⟩
  | .hbm, ⟨29, _⟩ => ⟨S256, .i1⟩
  | .hbm, ⟨30, _⟩ => ⟨S16384x256, .f32⟩
  | .hbm, ⟨31, _⟩ => ⟨S16384x256, .i1⟩
  | .hbm, ⟨32, _⟩ => ⟨S_, .f32⟩
  | .hbm, ⟨33, _⟩ => ⟨S16384x256, .f32⟩
  | .hbm, ⟨34, _⟩ => ⟨S16384x256, .f32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S256x1, .i32⟩
  | .hbm, ⟨43, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_c : Ref sig .tc := ⟨.hbm, 35, rfl⟩
abbrev main_v7 : Ref sig .tc := ⟨.hbm, 36, rfl⟩
abbrev main_v8 : Ref sig .tc := ⟨.hbm, 37, rfl⟩
abbrev main_c_0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩

abbrev nD : Nat := 1
abbrev τ : Topo := Topo.v7x

variable {F : FTy → Type} [FloatOps F]
-- ==== Proof.Lin.Tile.lean ====
/- What one 512-column tile of the kernel's output block holds: the 0/1 spreading matrix, element by element, and the
   product of a 64-column slice with it. -/
module

public import proofs.«01_k».proof.Proof.Gen.KernelIdeal.Value
public import Idealize.ShloMosaic.Lib.Pipeline.ValueKit
public import Idealize.ShloMosaic.Lib.Pointwise
public import Idealize.ShloMosaic.Lib.Tactic.WordOmega

@[expose] public section

set_option maxRecDepth 16384

noncomputable section

namespace Cert.Lin

open Cert.KernelIdeal Cert.KernelIdeal.Gen Idealize.ShloMosaic

/-- The kernel's test that a row of the spreading matrix is even, on the words it computes with. -/
theorem even_word : ∀ j : Fin 64,
    IntOp.cmpi CmpIPredicate.eq
      (Scalar.select
        (IntOp.andi
          (IntOp.xori
            (IntOp.cmpi CmpIPredicate.slt
              (IntOp.remsi ArithUnit.vector (BitVec.ofNat 32 j.val) (Scalar.select (Scalar.cmpi CmpIPredicate.eq 2#32 0#32) 1#32 2#32)) 0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 j.val) (Scalar.select (Scalar.cmpi CmpIPredicate.eq 2#32 0#32) 1#32 2#32)) 0#32))
        (IntOp.addi
          (IntOp.remsi ArithUnit.vector (BitVec.ofNat 32 j.val) (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 j.val) (Scalar.select (Scalar.cmpi CmpIPredicate.eq 2#32 0#32) 1#32 2#32)))
      0#32 = BitVec.ofBool (decide (j.val % 2 = 0)) := by
  decide +kernel

/-- The kernel's test that a column is eight times the row, on words. -/
theorem column_word (j : Fin 64) (r : Fin 512) :
    IntOp.cmpi CmpIPredicate.eq (BitVec.ofNat 32 r.val) (IntOp.muli (8#32) (BitVec.ofNat 32 j.val)) = BitVec.ofBool (decide (r.val = 8 * j.val)) := by
  have h : (BitVec.ofNat 32 r.val = IntOp.muli (8#32) (BitVec.ofNat 32 j.val)) ↔ r.val = 8 * j.val := by
    rw [← BitVec.toNat_inj]
    simp only [IntOp.muli, BitVec.toNat_mul, BitVec.toNat_ofNat]
    omega
  simp only [IntOp.cmpi, ← h]
  rfl

/-- The 0/1 word of two tests, as a number of the extended reals. -/
theorem bit_value (p q : Prop) [Decidable p] [Decidable q] :
    FloatOps.sitofp (F := Ideal) FTy.f32 (BitVec.setWidth 32 (IntOp.andi (BitVec.ofBool (decide p)) (BitVec.ofBool (decide q))))
      = if p ∧ q then (1 : EReal) else 0 := by
  by_cases hp : p <;> by_cases hq : q <;> simp [hp, hq, IntOp.andi, FloatOps.sitofp]

/-- The spreading matrix holds 1 at row `j`, column `8 j` for the even rows `j`, and 0 everywhere else. -/
theorem spread_apply (j : Fin 64) (r : Fin 512) :
    k0_pay8 (F := Ideal) (ix2 j r) = if r.val = 8 * j.val ∧ j.val % 2 = 0 then (1 : EReal) else 0 := by
  pointwise [k0_pay8]
  rw [column_word, even_word, bit_value]

/-- Adding the 64 products of a slice's entries with a column of the spreading matrix leaves the one entry that the
    column names, or nothing. -/
theorem sum_spread (f : Fin 64 → EReal) (r : Fin 512) :
    (∑ k : Fin 64, f k * (if r.val = 8 * k.val ∧ k.val % 2 = 0 then (1 : EReal) else 0))
      = if r.val % 16 = 0 then f ⟨r.val / 8, by omega⟩ else 0 := by
  by_cases h : r.val % 16 = 0
  · rw [if_pos h, Finset.sum_eq_single (⟨r.val / 8, by omega⟩ : Fin 64)]
    · rw [if_pos (by constructor <;> (try dsimp only) <;> omega), mul_one]
    · intro k _ hk
      rw [if_neg (fun e => hk (Fin.ext (by dsimp only; omega))), mul_zero]
    · intro hn; exact absurd (Finset.mem_univ _) hn
  · rw [if_neg h]
    refine Finset.sum_eq_zero fun k _ => ?_
    rw [if_neg (by omega), mul_zero]

/-- A slice of 64 base activations from `o` on, multiplied with the spreading matrix: at column `r` the activation
    `o + r / 8` if 16 divides `r`, else 0. -/
theorem tile_apply (v : FVec Ideal S1024x512 .f32) (o : Nat) (ho : o ≤ 448) (hs : S1024x512.Slices ![0, o] S1024x64) (i : Fin 1024) (r : Fin 512) :
    matmul (F := Ideal) dot_S1024x64_S64x512_S1024x512_1_0_0_1_n_n none (extractStridedSlice S1024x64 ![0, o] v hs) (k0_pay8 (F := Ideal))
        (constant S1024x512 .f32 0x00000000#32) (ix2 i r)
      = if r.val % 16 = 0 then v (ix2 i ⟨o + r.val / 8, by omega⟩) else 0 := by
  pointwise
  simp only [spread_apply]
  rw [sum_spread]

/-- The base activations of a block: a row of the inputs against a row of the weights, plus the bias. -/
theorem base_apply (x0 : Vec Ideal S1024x512 .f32) (x1 : Vec Ideal S512x512 .f32) (x2 : Vec Ideal S1x512 .f32) (r : Fin 1024) (o : Fin 512) :
    k0_pay11 (F := Ideal) x0 x1 x2 (ix2 r o) = (∑ k : Fin 512, x0 (ix2 r k) * x1 (ix2 o k)) + x2 (ix2 0 o) := by
  pointwise [k0_pay11, k0_pay7]

/-- One stored tile, read at the output's own row `r` and column `c`: the base activation `c / 8` if 16 divides `c`, else 0. -/
theorem tile_at (x0 : Vec Ideal S1024x512 .f32) (x1 : Vec Ideal S512x512 .f32) (x2 : Vec Ideal S1x512 .f32) (t : Nat) (ht : t < 8)
    (hs : S1024x512.Slices ![0, 64 * t] S1024x64) (r : Fin 1024) (c : Fin 4096) (x : S1024x512.Idx)
    (h0 : r.val = (x 0).val) (h1 : c.val = 512 * t + (x 1).val) :
    matmul (F := Ideal) dot_S1024x64_S64x512_S1024x512_1_0_0_1_n_n none (extractStridedSlice S1024x64 ![0, 64 * t] (k0_pay11 (F := Ideal) x0 x1 x2) hs)
        (k0_pay8 (F := Ideal)) (constant S1024x512 .f32 0x00000000#32) x
      = if c.val % 16 = 0 then (∑ k : Fin 512, x0 (ix2 r k) * x1 (ix2 ⟨c.val / 8, by omega⟩ k)) + x2 (ix2 0 ⟨c.val / 8, by omega⟩) else 0 := by
  obtain ⟨i, j, rfl⟩ : ∃ (i : Fin 1024) (j : Fin 512), x = ix2 i j := ⟨x 0, x 1, eq_ix2 x⟩
  have hi : i = r := Fin.ext h0.symm
  have hj : c.val = 512 * t + j.val := h1
  subst hi
  have e : (⟨64 * t + j.val / 8, by omega⟩ : Fin 512) = ⟨c.val / 8, by omega⟩ := Fin.ext (by dsimp only; omega)
  rw [tile_apply _ _ (by omega), base_apply, e]
  exact if_congr (by omega) rfl rfl

/-- The block a grid point leaves: row `r`, column `c` holds the base activation `c / 8` of row `r` if 16 divides `c`, else 0. -/
theorem block_apply (x0 : Vec Ideal S1024x512 .f32) (x1 : Vec Ideal S512x512 .f32) (x2 : Vec Ideal S1x512 .f32) (r : Fin 1024) (c : Fin 4096) :
    out0_3 (F := Ideal) x0 x1 x2 (ix2 r c)
      = if c.val % 16 = 0 then (∑ k : Fin 512, x0 (ix2 r k) * x1 (ix2 ⟨c.val / 8, by omega⟩ k)) + x2 (ix2 0 ⟨c.val / 8, by omega⟩) else 0 := by
  canon_tiles x h
  · exact tile_at x0 x1 x2 7 (by decide) _ r c x h0 h1
  · exact tile_at x0 x1 x2 6 (by decide) _ r c x h0 h1
  · exact tile_at x0 x1 x2 5 (by decide) _ r c x h0 h1
  · exact tile_at x0 x1 x2 4 (by decide) _ r c x h0 h1
  · exact tile_at x0 x1 x2 3 (by decide) _ r c x h0 h1
  · exact tile_at x0 x1 x2 2 (by decide) _ r c x h0 h1
  · exact tile_at x0 x1 x2 1 (by decide) _ r c x h0 h1
  · exact tile_at x0 x1 x2 0 (by decide) _ r c x h0 (h1.trans (Nat.zero_add _).symm)

end Cert.Lin
-- ==== Proof.Lin.Array.lean ====
/- The kernel's result array after the run, as one function of the argument arrays. -/
module

public import proofs.«01_k».proof.Proof.Lin.Tile

@[expose] public section

set_option maxRecDepth 16384

noncomputable section

namespace Cert.Lin

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The linear layer spread over the wide output: column `16 k` of a row holds output `2 k` of the layer, the other columns hold 0. -/
def G (X : FVec Ideal S16384x512 .f32) (W : FVec Ideal S512x512 .f32) (b : FVec Ideal S512 .f32) : FVec Ideal S16384x4096 .f32 :=
  fun i => if (i 1).val % 16 = 0 then
      (∑ k : Fin 512, X (ix2 (i 0) k) * W (ix2 ⟨(i 1).val / 8, by have := (i 1).isLt; change (i 1).val < 4096 at this; omega⟩ k))
        + b (ix1 ⟨(i 1).val / 8, by have := (i 1).isLt; change (i 1).val < 4096 at this; omega⟩)
    else 0

/-- Which block of its array each window shows at a grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What a grid point stores at row `r`, column `c` of its block is the entry of the result at that block's place. -/
theorem point (c : Dev nD) (t : Fin cfg0.N) (y : S1024x4096.Idx) :
    out0_3 (F := Ideal) (iblk m c 0 t) (iblk m c 1 t) (iblk m c 2 t) y
      = G (m ((c : Thread nD τ).loc main_arg0)) (m ((c : Thread nD τ).loc main_arg1)) (m ((c : Thread nD τ).loc main_arg2)) (((cfg0.win 3).blk t).view.emb y) := by
  obtain ⟨i, j, rfl⟩ : ∃ (i : Fin 1024) (j : Fin 4096), y = ix2 i j := ⟨y 0, y 1, eq_ix2 y⟩
  rw [block_apply]
  unfold G
  have e1 : ((((cfg0.win 3).blk t).view.emb (ix2 i j)) 1 : ℕ) = j.val := by blk_simp [idx t]
  have e0 : ((((cfg0.win 3).blk t).view.emb (ix2 i j)) 0 : ℕ) = t.val * 1024 + i.val := by blk_simp [idx t]
  refine if_congr (by rw [e1]) ?_ rfl
  blk_point [iblk, V, idx t]

/-- The result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Lin
-- ==== Proof.Lin.Moves.lean ====
/- The reference's two data movements read at an entry: the take of columns by an index list, and the store of columns by an index list. -/
module

public import proofs.«01_k».proof.Proof.Gen.ReferenceIdeal
public import Idealize.ShloMosaic.Lib.Pointwise
public import Idealize.ShloMosaic.Lib.Routing.OpsSet

@[expose] public section

set_option maxRecDepth 16384

noncomputable section

namespace Cert.Lin

open Cert.ReferenceIdeal Cert.ReferenceIdeal.Gen Idealize.ShloMosaic

/-- The take's dimension numbers. -/
abbrev takeD : GatherDims S16384x512 S256x1 S16384x256 := gather_S16384x512_S256x1_S16384x256_0_1_n_n_1_1_163841

/-- The store's dimension numbers. -/
abbrev putD : ScatterDims S16384x4096 S256x1 S16384x256 := scatter_S16384x4096_S256x1_S16384x256_0_1_1_1

/-- Column `k` of the take is the column that entry `k` of the index list names. -/
theorem take_apply {α : Type} (x : S16384x512.Idx → α) (idx : IVec S256x1 32) (r : Fin 16384) (k : Fin 256) (o : Fin 512)
    (h : (idx (ix2 k 0)).toInt = (o.val : Int)) : Host.gather takeD x idx (ix2 r k) = x (ix2 r o) := by
  unfold Host.gather
  refine congrArg x (funext fun a => Fin.ext ?_)
  have hb : ∀ a' : Fin 2, a' ∉ takeD.operandBatchingDims := fun a' => List.not_mem_nil
  match a with
  | ⟨0, _⟩ =>
    show takeD.start (ix2 r k) idx 0 + takeD.batchCoord (ix2 r k) 0 + takeD.offCoord (ix2 r k) 0 = r.val
    have hm : (0 : Fin 2) ∉ takeD.startIndexMap := by decide
    have hk : (0 : Fin 2) ∈ takeD.sKept := by decide
    rw [takeD.batchCoord_eq_zero _ _ (hb 0)]
    unfold GatherDims.start GatherDims.offCoord
    rw [dif_neg hm, dif_pos hk, Nat.zero_add]
    rfl
  | ⟨1, _⟩ =>
    show takeD.start (ix2 r k) idx 1 + takeD.batchCoord (ix2 r k) 1 + takeD.offCoord (ix2 r k) 1 = o.val
    have hm : (1 : Fin 2) ∈ takeD.startIndexMap := by decide
    have hk : (1 : Fin 2) ∉ takeD.sKept := by decide
    rw [takeD.batchCoord_eq_zero _ _ (hb 1), takeD.offCoord_eq_zero _ _ hk]
    unfold GatherDims.start
    rw [dif_pos hm]
    have hs : takeD.siIdx (ix2 r k) ⟨takeD.startIndexMap.idxOf 1, List.idxOf_lt_length_iff.2 hm⟩ = ix2 k 0 := by
      funext b'
      match b' with
      | ⟨0, _⟩ => rfl
      | ⟨1, _⟩ => rfl
    rw [hs, h]
    show min ((o.val : Int)).toNat (512 - 1) + 0 + 0 = o.val
    omega

/-- Entry `(r', k)` of the updates lands at row `r`, column `c` exactly when `r'` is `r` and entry `k` of the index list is `c`. -/
theorem put_lands (idx : IVec S256x1 32) (r' : Fin 16384) (k : Fin 256) (r : Fin 16384) (c : Fin 4096) :
    putD.resultIdx? (ix2 r' k) idx = some (ix2 r c) ↔ r' = r ∧ (idx (ix2 k 0)).toInt = (c.val : Int) := by
  have hw0 : putD.window (ix2 r' k) 0 = r'.val := by
    unfold ScatterDims.window
    rw [dif_pos (by decide)]
    rfl
  have hw1 : putD.window (ix2 r' k) 1 = 0 := by
    unfold ScatterDims.window
    rw [dif_neg (by decide)]
  have hs0 : putD.start (ix2 r' k) idx 0 = 0 := by
    unfold ScatterDims.start
    rw [dif_neg (by decide)]
  have hm : (1 : Fin 2) ∈ putD.scatterDimsToOperandDims := by decide
  have hs1 : putD.start (ix2 r' k) idx 1 = (idx (ix2 k 0)).toInt := by
    unfold ScatterDims.start
    rw [dif_pos hm]
    have hs : putD.siIdx (ix2 r' k) ⟨putD.scatterDimsToOperandDims.idxOf 1, List.idxOf_lt_length_iff.2 hm⟩ = ix2 k 0 := by
      funext b'
      match b' with
      | ⟨0, _⟩ => rfl
      | ⟨1, _⟩ => rfl
    rw [hs]
  rw [Routing.resultIdx?_eq_some, Fin.ext_iff]
  constructor
  · intro h
    have h0 : putD.start (ix2 r' k) idx 0 + (putD.window (ix2 r' k) 0 : Int) = (r.val : Int) := h 0
    have h1 : putD.start (ix2 r' k) idx 1 + (putD.window (ix2 r' k) 1 : Int) = (c.val : Int) := h 1
    rw [hs0, hw0] at h0
    rw [hs1, hw1] at h1
    omega
  · rintro ⟨h0, h1⟩ a
    match a with
    | ⟨0, _⟩ =>
      show putD.start (ix2 r' k) idx 0 + (putD.window (ix2 r' k) 0 : Int) = (r.val : Int)
      rw [hs0, hw0]; omega
    | ⟨1, _⟩ =>
      show putD.start (ix2 r' k) idx 1 + (putD.window (ix2 r' k) 1 : Int) = (c.val : Int)
      rw [hs1, hw1]; omega

/-- Storing 256 columns at the columns `16 k`: column `c` of the result is update column `c / 16` if 16 divides `c`, else the old column. -/
theorem put_apply {α : Type} (x : S16384x4096.Idx → α) (idx : IVec S256x1 32) (u : S16384x256.Idx → α)
    (h : ∀ k : Fin 256, (idx (ix2 k 0)).toInt = ((16 * k.val : Nat) : Int)) (r : Fin 16384) (c : Fin 4096) :
    Host.scatter putD (fun _ b => b) x idx u (ix2 r c) = if c.val % 16 = 0 then u (ix2 r ⟨c.val / 16, by omega⟩) else x (ix2 r c) := by
  have lands : ∀ j : S16384x256.Idx, putD.resultIdx? j idx = some (ix2 r c) → ∃ k : Fin 256, j = ix2 r k ∧ 16 * k.val = c.val := by
    intro j hj
    obtain ⟨r', k, rfl⟩ : ∃ (r' : Fin 16384) (k : Fin 256), j = ix2 r' k := ⟨j 0, j 1, eq_ix2 j⟩
    obtain ⟨rfl, hc⟩ := (put_lands idx r' k r c).1 hj
    rw [h k] at hc
    exact ⟨k, rfl, by omega⟩
  by_cases hc : c.val % 16 = 0
  · rw [if_pos hc]
    refine Routing.scatter_set_hit putD x idx u _ _ (fun j hj => ?_) (ix2 r ⟨c.val / 16, by omega⟩) ((put_lands idx r _ r c).2 ⟨rfl, ?_⟩)
    · obtain ⟨k, rfl, e⟩ := lands j hj
      exact congrArg (fun q => u (ix2 r q)) (Fin.ext (by dsimp only; omega))
    · rw [h]; dsimp only; omega
  · rw [if_neg hc]
    refine Routing.scatter_set_miss putD x idx u _ fun j hj => ?_
    obtain ⟨k, _, e⟩ := lands j hj
    omega

end Cert.Lin
-- ==== Proof.Lin.Ref.lean ====
/- The reference's result, entry by entry, under the layout the index lists must have. -/
module

public import proofs.«01_k».proof.Proof.Lin.Moves
public import proofs.«01_k».proof.Proof.Gen.ReferenceIdeal.Run
public import proofs.«01_k».proof.Proof.Gen.Pre_setup_masks
public import Idealize.ShloMosaic.Lib.ReduceAll
public import Idealize.ShloMosaic.Lib.Tactic.WordOmega

@[expose] public section

set_option maxRecDepth 16384

noncomputable section

namespace Cert.Lin

open Cert.ReferenceIdeal Cert.ReferenceIdeal.Gen Idealize.ShloMosaic

/-- The columns to take, with negative entries counted from the end. -/
def takeIdx (a4 : IVec S256 32) : IVec S256x1 32 :=
  broadcastInDim S256x1 ![0] bcast_S256_S256x1_0 (select (cmpi .slt a4 (broadcastInDim S256 ![] bcast_S_S256 (constantI S_ 32 0#32))) (addi a4 (broadcastInDim S256 ![] bcast_S_S256 (constantI S_ 32 512#32))) a4)

/-- The columns to store at, with negative entries counted from the end. -/
def putIdx (a3 : IVec S256 32) : IVec S256x1 32 :=
  broadcastInDim S256x1 ![0] bcast_S256_S256x1_0 (select (cmpi .slt a3 (broadcastInDim S256 ![] bcast_S_S256 (constantI S_ 32 0#32))) (addi a3 (broadcastInDim S256 ![] bcast_S_S256 (constantI S_ 32 4096#32))) a3)

/-- The linear layer's outputs. -/
def layer (X : FVec Ideal S16384x512 .f32) (W : FVec Ideal S512x512 .f32) (b : FVec Ideal S512 .f32) : FVec Ideal S16384x512 .f32 :=
  addf (Host.dotGeneral dot_S16384x512_S512x512_S16384x512_1_0_0_1_n_n none X (transpose S512x512 [1, 0] W transposes_S512x512_S512x512_1_0)) (broadcastInDim S16384x512 ![0, 1] bcast_S1x512_S16384x512_0_1 (broadcastInDim S1x512 ![1] bcast_S512_S1x512_1 b))

/-- Which taken columns lie inside the layer's outputs. -/
def inside (a4 : IVec S256 32) : IVec S256 1 :=
  Host.reduce IntOp.andi (andi (cmpi .sge (takeIdx a4) (broadcastInDim S256x1 ![] bcast_S_S256x1 (constantI S_ 32 0#32))) (cmpi .sle (takeIdx a4) (broadcastInDim S256x1 ![0, 1] bcast_S1x1_S256x1_0_1 (broadcastInDim S1x1 ![1] bcast_S1_S1x1_1 (constantI S1 32 511#32))))) (constantI S_ 1 1#1) reducesTo_S256x1_S256_d1 h_S_

/-- The layer's taken columns. -/
def taken (X : FVec Ideal S16384x512 .f32) (W : FVec Ideal S512x512 .f32) (b : FVec Ideal S512 .f32) (a4 : IVec S256 32) : FVec Ideal S16384x256 .f32 :=
  select (broadcastInDim S16384x256 ![1] bcast_S256_S16384x256_1 (inside a4)) (Host.gather gather_S16384x512_S256x1_S16384x256_0_1_n_n_1_1_163841 (layer X W b) (takeIdx a4)) (broadcastInDim S16384x256 ![] bcast_S_S16384x256 (constant S_ .f32 0x7FC00000#32))

/-- The reference's result as a function of its five arguments. -/
def spread (X : FVec Ideal S16384x512 .f32) (W : FVec Ideal S512x512 .f32) (b : FVec Ideal S512 .f32) (a3 a4 : IVec S256 32) : FVec Ideal S16384x4096 .f32 :=
  Host.scatter scatter_S16384x4096_S256x1_S16384x256_0_1_1_1 (fun _ b => b) (broadcastInDim S16384x4096 ![] bcast_S_S16384x4096 (constant S_ .f32 0x00000000#32)) (putIdx a3) (taken X W b a4)

/-- The word `16 k` or `2 k` of a small `k` is not negative, so it names the column it says. -/
theorem wrap_word (n : Nat) (hn : n < 4096) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

/-- Entry `k` of the list of taken columns, where the given list holds `n` there. -/
theorem takeIdx_apply (a4 : IVec S256 32) (k : Fin 256) (n : Nat) (hn : n < 4096) (h : a4 (ix1 k) = BitVec.ofNat 32 n) :
    takeIdx a4 (ix2 k 0) = BitVec.ofNat 32 n := by
  pointwise [takeIdx]
  rw [h, wrap_word n hn]

/-- Entry `k` of the list of stored columns, where the given list holds `n` there. -/
theorem putIdx_apply (a3 : IVec S256 32) (k : Fin 256) (n : Nat) (hn : n < 4096) (h : a3 (ix1 k) = BitVec.ofNat 32 n) :
    putIdx a3 (ix2 k 0) = BitVec.ofNat 32 n := by
  pointwise [putIdx]
  rw [h, wrap_word n hn]

/-- The layer at a row and an output: the row against that output's weights, plus the bias. -/
theorem layer_apply (X : FVec Ideal S16384x512 .f32) (W : FVec Ideal S512x512 .f32) (b : FVec Ideal S512 .f32) (r : Fin 16384) (o : Fin 512) :
    layer X W b (ix2 r o) = (∑ k : Fin 512, X (ix2 r k) * W (ix2 o k)) + b (ix1 o) := by
  pointwise [layer]

/-- The even numbers below 512 pass the range test. -/
theorem in_range : ∀ q : Fin 256,
    IntOp.andi (IntOp.cmpi CmpIPredicate.sge (BitVec.ofNat 32 (2 * q.val)) 0#32) (IntOp.cmpi CmpIPredicate.sle (BitVec.ofNat 32 (2 * q.val)) 511#32)
      = 1#1 := by
  decide +kernel

/-- Every taken column is inside when the list holds the even numbers. -/
theorem inside_apply (a4 : IVec S256 32) (h : ∀ k : Fin 256, a4 (ix1 k) = BitVec.ofNat 32 (2 * k.val)) (k : Fin 256) : inside a4 (ix1 k) = 1#1 := by
  unfold inside
  refine Host.reduce_andi_one _ _ _ _ _ rfl fun i => ?_
  obtain ⟨q, z, rfl⟩ : ∃ (q : Fin 256) (z : Fin 1), i = ix2 q z := ⟨i 0, i 1, eq_ix2 i⟩
  obtain rfl : z = 0 := Subsingleton.elim _ _
  have e := takeIdx_apply a4 q (2 * q.val) (by omega) (h q)
  pointwise [e]
  exact in_range q

/-- A taken column: entry `k` is the layer's output `2 k` when the list holds the even numbers. -/
theorem taken_apply (X : FVec Ideal S16384x512 .f32) (W : FVec Ideal S512x512 .f32) (b : FVec Ideal S512 .f32) (a4 : IVec S256 32)
    (h : ∀ k : Fin 256, a4 (ix1 k) = BitVec.ofNat 32 (2 * k.val)) (r : Fin 16384) (k : Fin 256) :
    taken X W b a4 (ix2 r k) = layer X W b (ix2 r ⟨2 * k.val, by omega⟩) := by
  have e := take_apply (layer X W b) (takeIdx a4) r k ⟨2 * k.val, by omega⟩ (by
    rw [takeIdx_apply a4 k (2 * k.val) (by omega) (h k), StableHlo.Predicate.toInt_ofNat_small _ (by omega)])
  pointwise [taken, inside_apply a4 h]
  exact e

/-- The reference's result: column `16 k` of a row holds the layer's output `2 k`, the other columns hold 0. -/
theorem spread_eq (X : FVec Ideal S16384x512 .f32) (W : FVec Ideal S512x512 .f32) (b : FVec Ideal S512 .f32) (a3 a4 : IVec S256 32)
    (h3 : ∀ k : Fin 256, a3 (ix1 k) = BitVec.ofNat 32 (16 * k.val)) (h4 : ∀ k : Fin 256, a4 (ix1 k) = BitVec.ofNat 32 (2 * k.val))
    (r : Fin 16384) (c : Fin 4096) :
    spread X W b a3 a4 (ix2 r c) = if c.val % 16 = 0 then (∑ k : Fin 512, X (ix2 r k) * W (ix2 ⟨c.val / 8, by omega⟩ k)) + b (ix1 ⟨c.val / 8, by omega⟩) else 0 := by
  unfold spread
  rw [put_apply _ _ _ (fun k => by rw [putIdx_apply a3 k (16 * k.val) (by omega) (h3 k), StableHlo.Predicate.toInt_ofNat_small _ (by omega)])]
  by_cases hc : c.val % 16 = 0
  · rw [if_pos hc, if_pos hc, taken_apply X W b a4 h4, layer_apply]
    have e : (⟨2 * (c.val / 16), by omega⟩ : Fin 512) = ⟨c.val / 8, by omega⟩ := Fin.ext (by dsimp only; omega)
    rw [e]
  · rw [if_neg hc, if_neg hc]
    pointwise

/-- A product of words is the word of the product. -/
theorem times_word (k n : Nat) : IntOp.muli (BitVec.ofNat 32 k) (BitVec.ofNat 32 n) = BitVec.ofNat 32 (n * k) := by
  rw [Nat.mul_comm, BitVec.ofNat_mul]
  rfl

/-- What the layout condition says of the two index lists. -/
theorem masks_of_pre (X : FVec Ideal S16384x512 .f32) (W : FVec Ideal S512x512 .f32) (b : FVec Ideal S512 .f32) (a3 a4 : IVec S256 32) (k : Fin 256)
    (h : Cert.Pre_setup_masks.fn (F := Ideal) X W b a3 a4 (ix1 k) = 1#1) :
    a3 (ix1 k) = BitVec.ofNat 32 (16 * k.val) ∧ a4 (ix1 k) = BitVec.ofNat 32 (2 * k.val) := by
  pointwise [Cert.Pre_setup_masks.fn] at h
  rw [WordCmp.cmpi_eq_eq, WordCmp.cmpi_eq_eq, WordCmp.andi_ofBool, WordCmp.ofBool_eq_one_iff, Bool.and_eq_true, decide_eq_true_iff, decide_eq_true_iff] at h
  rw [h.1, h.2, times_word, times_word]
  exact ⟨rfl, rfl⟩

end Cert.Lin
-- ==== Proof.Lin.Join.lean ====
/-
  The two programs meet: the array the kernel leaves is the array the reference's term describes, under the
  precondition on the masks; and the reference's own frame.
-/
module

public import proofs.«01_k».proof.Defs
public import proofs.«01_k».proof.Proof.Lin.Array
public import proofs.«01_k».proof.Proof.Lin.Ref
public import Idealize.ShloMosaic.Lib.Claim
public import Idealize.ShloMosaic.Lib.Quiescent

@[expose] public section

noncomputable section

namespace Cert.Lin

open Idealize.ShloMosaic Idealize.SL.Sem

/-- Under the precondition the reference's array is the one the kernel leaves. -/
theorem spread_eq_G (X : FVec Ideal Cert.ReferenceIdeal.S16384x512 .f32) (W : FVec Ideal Cert.ReferenceIdeal.S512x512 .f32)
    (b : FVec Ideal Cert.ReferenceIdeal.S512 .f32) (a3 a4 : IVec Cert.ReferenceIdeal.S256 32)
    (h : Cert.Pre_setup_masks.fn (F := Ideal) X W b a3 a4 = fun _ => 1#1) : spread X W b a3 a4 = G X W b := by
  funext i
  have hm := fun k : Fin 256 => masks_of_pre X W b a3 a4 k (congrFun h (ix1 k))
  have e : spread X W b a3 a4 i = spread X W b a3 a4 (ix2 (i 0) (i 1)) := congrArg _ (eq_ix2 i)
  exact e.trans (spread_eq X W b a3 a4 (fun k => (hm k).1) (fun k => (hm k).2) (i 0) (i 1))

/-- The reference, from any memory at all, ends with its arguments as they were and every counter at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  θ_run_mono (Cert.ReferenceIdeal.Value.run m g) fun r h => ⟨fun c => (h c).2, sem_eq_zero_of_no_sems rfl r.2⟩

end Cert.Lin

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_setup_masks
public import proofs.«01_k».proof.Proof.Lin.Join
public import Idealize.ShloMosaic.Adequacy
public import Idealize.ShloMosaic.Init

@[expose] public section

noncomputable section

namespace Cert.Proof

open Idealize.ShloMosaic Idealize.SL.Sem Cert.Kernel

/-- The kernel and the reference leave the same result array: both leave the plain linear layer, its even columns spread
    to every sixteenth column and zero elsewhere. -/
theorem algebraic : Cert.algebraic_KernelIdeal_ReferenceIdeal_pre_setup_masks := by
  intro m g m' g' hpre hagree
  refine ⟨fun c => Cert.Lin.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact θ_run_mono (Cert.KernelIdeal.Value.run_blocks m g) (fun r h c => ⟨(h c).1.trans (Cert.Lin.final m c), (h c).2⟩)
  · refine θ_run_mono (Cert.ReferenceIdeal.Value.run m' g') (fun r h c => ⟨(h c).1.trans ?_, (h c).2⟩)
    obtain ⟨e0, e1, e2, e3, e4⟩ := hagree c
    rw [e0, e1, e2, e3, e4]
    exact Cert.Lin.spread_eq_G _ _ _ _ _ (hpre c)

/-- Every claim of the certificate. -/
theorem claim : Cert.Claim := ⟨Cert.Kernel.Gen.facts, Cert.KernelIdeal.Gen.facts, Cert.ReferenceIdeal.Gen.facts, Cert.Pre_setup_masks.Gen.facts,
  fun m g _ => Cert.Kernel.Gen.frame m g, fun m g _ => Cert.KernelIdeal.Gen.frame m g, fun m g _ => Cert.KernelIdeal.Gen.frame m g,
  fun m g _ => Cert.Lin.ref_frame m g, fun m g _ => Cert.Lin.ref_frame m g, trivial, algebraic⟩

end Cert.Proof

end
